-- ==== Defs.lean ====
def Pre_Kernel (m : (ℓ : Loc Cert.Kernel.nD Cert.Kernel.τ Cert.Kernel.sig) → Buf (Elt Bits) ℓ) : Prop :=
  True

def Pre_Kernel_no_padding [hPre_no_padding : Cert.Pre_no_padding.Facts] (m : (ℓ : Loc Cert.Kernel.nD Cert.Kernel.τ Cert.Kernel.sig) → Buf (Elt Bits) ℓ) : Prop :=
  ∀ c : Dev Cert.Kernel.nD,
    (Cert.Pre_no_padding.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal (m : (ℓ : Loc Cert.KernelIdeal.nD Cert.KernelIdeal.τ Cert.KernelIdeal.sig) → Buf (Elt Ideal) ℓ) : Prop :=
  True

def Pre_KernelIdeal_no_padding [hPre_no_padding : Cert.Pre_no_padding.Facts] (m : (ℓ : Loc Cert.KernelIdeal.nD Cert.KernelIdeal.τ Cert.KernelIdeal.sig) → Buf (Elt Ideal) ℓ) : Prop :=
  ∀ c : Dev Cert.KernelIdeal.nD,
    (Cert.Pre_no_padding.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_padding [hPre_no_padding : Cert.Pre_no_padding.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_padding.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_no_padding : Cert.Pre_no_padding.Facts] (m : (ℓ : Loc Cert.Reference.nD Cert.Reference.τ Cert.Reference.sig) → Buf (Elt Bits) ℓ) : Prop :=
  ∀ c : Dev Cert.Reference.nD,
    (Cert.Pre_no_padding.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_no_padding [hKernel : Cert.Kernel.Facts] [hPre_no_padding : Cert.Pre_no_padding.Facts] : Prop :=
  ∀ (m : (ℓ : Loc Cert.Kernel.nD Cert.Kernel.τ Cert.Kernel.sig) → Buf (Elt Bits) ℓ) (g : Dev Cert.Kernel.nD → PrngReg), Pre_Kernel_no_padding m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_no_padding [hKernelIdeal : Cert.KernelIdeal.Facts] [hPre_no_padding : Cert.Pre_no_padding.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_padding m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_padding [hReferenceIdeal : Cert.ReferenceIdeal.Facts] [hPre_no_padding : Cert.Pre_no_padding.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_padding m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_no_padding : Cert.Pre_no_padding.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal_pre_no_padding [hKernelIdeal : Cert.KernelIdeal.Facts] [hReferenceIdeal : Cert.ReferenceIdeal.Facts] [hPre_no_padding : Cert.Pre_no_padding.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_padding m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference_pre_no_padding [hKernel : Cert.Kernel.Facts] [hReference : Cert.Reference.Facts] [hPre_no_padding : Cert.Pre_no_padding.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_no_padding m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v9) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts) (hPre_no_padding : Cert.Pre_no_padding.Facts),
    quiescent_Kernel (hKernel := hKernel)
    ∧ quiescent_Kernel_pre_no_padding (hKernel := hKernel) (hPre_no_padding := hPre_no_padding)
    ∧ quiescent_KernelIdeal (hKernelIdeal := hKernelIdeal)
    ∧ quiescent_KernelIdeal_pre_no_padding (hKernelIdeal := hKernelIdeal) (hPre_no_padding := hPre_no_padding)
    ∧ quiescent_ReferenceIdeal (hReferenceIdeal := hReferenceIdeal)
    ∧ quiescent_ReferenceIdeal_pre_no_padding (hReferenceIdeal := hReferenceIdeal) (hPre_no_padding := hPre_no_padding)
    ∧ quiescent_Reference (hReference := hReference) (hPre_no_padding := hPre_no_padding)
    ∧ preserves_Kernel_KernelIdeal
    ∧ algebraic_KernelIdeal_ReferenceIdeal_pre_no_padding (hKernelIdeal := hKernelIdeal) (hReferenceIdeal := hReferenceIdeal) (hPre_no_padding := hPre_no_padding)
    ∧ bitexact_Kernel_Reference_pre_no_padding (hKernel := hKernel) (hReference := hReference) (hPre_no_padding := hPre_no_padding)
-- ==== Pre_no_padding.lean ====
abbrev S16x4096x128 : Shape := ⟨3, ![16, 4096, 128]⟩
abbrev S16x4096 : Shape := ⟨2, ![16, 4096]⟩
abbrev S4102x128 : Shape := ⟨2, ![4102, 128]⟩
abbrev S_ : Shape := ⟨0, ![]⟩

class Facts : Prop where
  reducesTo_S16x4096_S_d0_1 : S16x4096.ReducesTo [0, 1] S_
  h_S_ : 0 < S_.numel

variable [Facts]

def fn {F : FTy → Type} [FloatOps F] (main_arg0 : FVec F S16x4096x128 .f32) (main_arg1 : IVec S16x4096 1) (main_arg2 : FVec F S4102x128 .f32) : IVec S_ 1 :=
  let main_v0 : IVec S16x4096 1 := noti main_arg1
  let main_c : IVec S_ 1 := constantI S_ 1 1#1
  let main_v1 : IVec S_ 1 := (fun x v => Host.reduce IntOp.andi x v reducesTo_S16x4096_S_d0_1 h_S_) main_v0 main_c
  main_v1
-- ==== Kernel.lean ====
abbrev S16x4096x128 : Shape := ⟨3, ![16, 4096, 128]⟩
abbrev S16x4096 : Shape := ⟨2, ![16, 4096]⟩
abbrev S4102x128 : Shape := ⟨2, ![4102, 128]⟩
abbrev S525056 : Shape := ⟨1, ![525056]⟩
abbrev S8388608 : Shape := ⟨1, ![8388608]⟩
abbrev S32768 : Shape := ⟨1, ![32768]⟩
abbrev S_ : Shape := ⟨0, ![]⟩

abbrev nBuf : Table → Nat
  | .hbm => 6
  | .local .scVector .vmem => 1
  | _ => 0

abbrev bufTy : (tb : Table) → Fin (nBuf tb) → BufTy
  | .hbm, ⟨0, _⟩ => ⟨S16x4096x128, .f32⟩
  | .hbm, ⟨1, _⟩ => ⟨S16x4096, .i1⟩
  | .hbm, ⟨2, _⟩ => ⟨S4102x128, .f32⟩
  | .hbm, ⟨3, _⟩ => ⟨S525056, .f32⟩
  | .hbm, ⟨4, _⟩ => ⟨S8388608, .f32⟩
  | .hbm, ⟨5, _⟩ => ⟨S16x4096x128, .f32⟩
  | .local .scVector .vmem, ⟨0, _⟩ => ⟨S32768, .f32⟩
  | _, _ => ⟨S16x4096x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v0_scv : Ref sig .scVector := ⟨.hbm, 3, rfl⟩
abbrev main_v1_scv : Ref sig .scVector := ⟨.hbm, 4, rfl⟩
abbrev cc0_scratch0 : Ref sig .scVector := ⟨.vmem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c256_i32 : BitVec 32 := 256#32
  let v29 : BitVec 32 := Scalar.muli v11 c256_i32
  let c1_i32_10 : BitVec 32 := 1#32
  let v30 : BitVec 32 := Scalar.addi v29 c1_i32_10
  let c1_i32_11 : BitVec 32 := 1#32
  let v31 : BitVec 32 := Scalar.addi v30 c1_i32_11
  let c128_i32 : BitVec 32 := 128#32
  let v32 : BitVec 32 := Scalar.muli v31 c128_i32
  ![v32.toNat]
def k0_off2 (i : grid0.Coords) (c0_i32_12 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4 : BitVec 32 := 0#32
  let v13 : BitVec 1 := Scalar.cmpi .sgt v1 c0_i32_4
  let v14 : BitVec 32 := Scalar.extui v13
  let c0_i32_5 : BitVec 32 := 0#32
  let v15 : BitVec 1 := Scalar.cmpi .slt v1 c0_i32_5
  let v16 : BitVec 32 := Scalar.extui v15
  let v17 : BitVec 32 := Scalar.subi v14 v16
  let c16_i32_3 : BitVec 32 := 16#32
  let c0_i32_6 : BitVec 32 := 0#32
  let v18 : BitVec 1 := Scalar.cmpi .sgt c16_i32_3 c0_i32_6
  let v19 : BitVec 32 := Scalar.extui v18
  let c0_i32_7 : BitVec 32 := 0#32
  let v20 : BitVec 1 := Scalar.cmpi .slt c16_i32_3 c0_i32_7
  let v21 : BitVec 32 := Scalar.extui v20
  let v22 : BitVec 32 := Scalar.subi v19 v21
  let v23 : BitVec 1 := Scalar.cmpi .ne v17 v22
  let v24 : BitVec 32 := Scalar.remsi v1 c16_i32_3
  let c0_i32_8 : BitVec 32 := 0#32
  let v25 : BitVec 1 := Scalar.cmpi .ne v24 c0_i32_8
  let v26 : BitVec 1 := Scalar.andi v23 v25
  let v12 : BitVec 32 := Scalar.divsi v1 c16_i32_3
  let c1_i32_9 : BitVec 32 := 1#32
  let v27 : BitVec 32 := Scalar.subi v12 c1_i32_9
  let v28 : BitVec 32 := Scalar.select v26 v27 v12
  let c8_i32 : BitVec 32 := 8#32
  let v33 : BitVec 32 := Scalar.muli v28 c8_i32
  let v34 : BitVec 32 := Scalar.addi v33 c0_i32_12
  let c4096_i32 : BitVec 32 := 4096#32
  let v35 : BitVec 32 := Scalar.muli v34 c4096_i32
  let c128_i32_13 : BitVec 32 := 128#32
  let v36 : BitVec 32 := Scalar.muli v35 c128_i32_13
  let c16_i32 : BitVec 32 := 16#32
  let c0_i32 : BitVec 32 := 0#32
  let v2 : BitVec 1 := Scalar.cmpi .eq c16_i32 c0_i32
  let c1_i32 : BitVec 32 := 1#32
  let v3 : BitVec 32 := Scalar.select v2 c1_i32 c16_i32
  let v4 : BitVec 32 := Scalar.remsi v1 v3
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let c0_i32_0 : BitVec 32 := 0#32
  let v5 : BitVec 1 := Scalar.cmpi .ne v4 c0_i32_0
  let v9 : BitVec 1 := Scalar.andi v8 v5
  let v10 : BitVec 32 := Scalar.addi v4 v3
  let v11 : BitVec 32 := Scalar.select v9 v10 v4
  let c256_i32 : BitVec 32 := 256#32
  let v29 : BitVec 32 := Scalar.muli v11 c256_i32
  let c128_i32_14 : BitVec 32 := 128#32
  let v37 : BitVec 32 := Scalar.muli v29 c128_i32_14
  let v38 : BitVec 32 := Scalar.addi v36 v37
  ![v38.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16x4096x128 : Shape := ⟨3, ![16, 4096, 128]⟩
abbrev S16x4096 : Shape := ⟨2, ![16, 4096]⟩
abbrev S4102x128 : Shape := ⟨2, ![4102, 128]⟩
abbrev S_ : Shape := ⟨0, ![]⟩
abbrev S16x4096x1 : Shape := ⟨3, ![16, 4096, 1]⟩
abbrev S1 : Shape := ⟨1, ![1]⟩
abbrev S1x1x1 : Shape := ⟨3, ![1, 1, 1]⟩

abbrev nBuf : Space → Nat
  | .hbm => 43
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S16x4096, .i1⟩
  | .hbm, ⟨2, _⟩ => ⟨S4102x128, .f32⟩
  | .hbm, ⟨3, _⟩ => ⟨S_, .i32⟩
  | .hbm, ⟨4, _⟩ => ⟨S16x4096, .i32⟩
  | .hbm, ⟨5, _⟩ => ⟨S_, .i32⟩
  | .hbm, ⟨6, _⟩ => ⟨S_, .i32⟩
  | .hbm, ⟨7, _⟩ => ⟨S16x4096, .i32⟩
  | .hbm, ⟨8, _⟩ => ⟨S16x4096, .i32⟩
  | .hbm, ⟨9, _⟩ => ⟨S_, .i32⟩
  | .hbm, ⟨10, _⟩ => ⟨S16x4096, .i32⟩
  | .hbm, ⟨11, _⟩ => ⟨S16x4096, .i1⟩
  | .hbm, ⟨12, _⟩ => ⟨S16x4096, .i32⟩
  | .hbm, ⟨13, _⟩ => ⟨S_, .i32⟩
  | .hbm, ⟨14, _⟩ => ⟨S_, .i32⟩
  | .hbm, ⟨15, _⟩ => ⟨S16x4096, .i32⟩
  | .hbm, ⟨16, _⟩ => ⟨S16x4096, .i32⟩
  | .hbm, ⟨17, _⟩ => ⟨S_, .i32⟩
  | .hbm, ⟨18, _⟩ => ⟨S16x4096, .i32⟩
  | .hbm, ⟨19, _⟩ => ⟨S16x4096, .i32⟩
  | .hbm, ⟨20, _⟩ => ⟨S_, .i32⟩
  | .hbm, ⟨21, _⟩ => ⟨S16x4096, .i32⟩
  | .hbm, ⟨22, _⟩ => ⟨S16x4096, .i1⟩
  | .hbm, ⟨23, _⟩ => ⟨S_, .i32⟩
  | .hbm, ⟨24, _⟩ => ⟨S16x4096, .i32⟩
  | .hbm, ⟨25, _⟩ => ⟨S16x4096, .i32⟩
  | .hbm, ⟨26, _⟩ => ⟨S16x4096, .i32⟩
  | .hbm, ⟨27, _⟩ => ⟨S16x4096x1, .i32⟩
  | .hbm, ⟨28, _⟩ => ⟨S1, .i32⟩
  | .hbm, ⟨29, _⟩ => ⟨S_, .i32⟩
  | .hbm, ⟨30, _⟩ => ⟨S16x4096x1, .i32⟩
  | .hbm, ⟨31, _⟩ => ⟨S16x4096x1, .i1⟩
  | .hbm, ⟨32, _⟩ => ⟨S1x1x1, .i32⟩
  | .hbm, ⟨33, _⟩ => ⟨S16x4096x1, .i32⟩
  | .hbm, ⟨34, _⟩ => ⟨S16x4096x1, .i1⟩
  | .hbm, ⟨35, _⟩ => ⟨S16x4096x1, .i1⟩
  | .hbm, ⟨36, _⟩ => ⟨S_, .i1⟩
  | .hbm, ⟨37, _⟩ => ⟨S16x4096, .i1⟩
  | .hbm, ⟨38, _⟩ => ⟨S16x4096x128, .f32⟩
  | .hbm, ⟨39, _⟩ => ⟨S16x4096x128, .i1⟩
  | .hbm, ⟨40, _⟩ => ⟨S_, .f32⟩
  | .hbm, ⟨41, _⟩ => ⟨S16x4096x128, .f32⟩
  | .hbm, ⟨42, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_c_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_call0_c : Ref sig .tc := ⟨.hbm, 13, rfl⟩
abbrev main_call1_call0_v0 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_call2_c : Ref sig .tc := ⟨.hbm, 20, rfl⟩
abbrev main_call2_v0 : Ref sig .tc := ⟨.hbm, 21, rfl⟩
abbrev main_call2_v1 : Ref sig .tc := ⟨.hbm, 22, rfl⟩
abbrev main_call2_c_0 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_c_1 : Ref sig .tc := ⟨.hbm, 28, rfl⟩
abbrev main_call2_c_2 : Ref sig .tc := ⟨.hbm, 29, rfl⟩
abbrev main_call2_v6 : Ref sig .tc := ⟨.hbm, 30, rfl⟩
abbrev main_call2_v7 : Ref sig .tc := ⟨.hbm, 31, rfl⟩
abbrev main_call2_v8 : Ref sig .tc := ⟨.hbm, 32, rfl⟩
abbrev main_call2_v9 : Ref sig .tc := ⟨.hbm, 33, rfl⟩
abbrev main_call2_v10 : Ref sig .tc := ⟨.hbm, 34, rfl⟩
abbrev main_call2_v11 : Ref sig .tc := ⟨.hbm, 35, rfl⟩
abbrev main_call2_c_3 : Ref sig .tc := ⟨.hbm, 36, rfl⟩
abbrev main_call2_v12 : Ref sig .tc := ⟨.hbm, 37, rfl⟩
abbrev main_call2_v13 : Ref sig .tc := ⟨.hbm, 38, rfl⟩
abbrev main_call2_v14 : Ref sig .tc := ⟨.hbm, 39, rfl⟩
abbrev main_call2_cst : Ref sig .tc := ⟨.hbm, 40, rfl⟩
abbrev main_call2_v15 : Ref sig .tc := ⟨.hbm, 41, rfl⟩
abbrev main_v9 : Ref sig .tc := ⟨.hbm, 42, rfl⟩

abbrev nD : Nat := 1
abbrev τ : Topo := Topo.v7x

variable {F : FTy → Type} [FloatOps F]
-- ==== Proof.Blocks.lean ====
/-
  WHERE A TILE'S COPIES GO. The output, flat, is 256 blocks of 32768 words: block `16 b + r` holds batch `b`'s positions
  `256 r … 256 r + 255`, each of 128 words. Tile `(c, s)`, numbered `t = 2 s + c`, fetches the table's words of position
  chunk `t % 16` and copies them into block `t % 16` of the eight batches `8 (t / 16) + j`, `j < 8`. This file reads the
  printed kernel's two offsets as these numbers (`off1_eq`, `off2_eq`) and shows that the 2 × 16 × 8 blocks are pairwise
  disjoint and make the whole output (`blk_disjoint`, `blk_cover`).
-/
module

public import proofs.«01_k».proof.Proof.Gen.KernelIdeal

@[expose] public section

noncomputable section

namespace Cert.Proof.PosEmb

open Cert.KernelIdeal Cert.KernelIdeal.Gen
open Idealize.ShloMosaic

/-- The position chunk of tile `(c, s)`. -/
def chunk (c s : ℕ) : ℕ := (2 * s + c) % 16

/-- The output block that copy `j` of tile `(c, s)` fills. -/
def blkNo (c s j : ℕ) : ℕ := ((2 * s + c) / 16 * 8 + j) * 16 + chunk c s

/-- The table words a tile fetches start two rows down (row 2 is position 0's) from its chunk's first row. -/
theorem off1_eq : ∀ i : grid0.Coords, k0_off1 i 0 = chunk (i 0).val (i 1).val * 32768 + 256 := by decide +kernel

/-- Copy `j` of a tile starts at its block's first word. -/
theorem off2_eq : ∀ i : grid0.Coords, ∀ j : Fin 8, k0_off2 i (BitVec.ofNat 32 j.val) 0 = blkNo (i 0).val (i 1).val j.val * 32768 := by
  decide +kernel

/-- Block `blkNo c s j` of the output: its 32768 indices. -/
def blk (c s j : ℕ) : Finset S8388608.Idx := Finset.univ.filter fun x => (x 0).val / 32768 = blkNo c s j

theorem mem_blk {c s j : ℕ} {x : S8388608.Idx} : x ∈ blk c s j ↔ (x 0).val / 32768 = blkNo c s j := by
  simp [blk]

/-- No two of the tiles' copies fill the same block. -/
theorem blkNo_inj {c s j c' s' j' : ℕ} (hc : c < 2) (hc' : c' < 2) (hs : s < 16) (hs' : s' < 16) (hj : j < 8) (hj' : j' < 8)
    (h : blkNo c s j = blkNo c' s' j') : c = c' ∧ s = s' ∧ j = j' := by
  unfold blkNo chunk at h; omega

/-- The blocks one tile fills are disjoint; -/
theorem blk_disjoint_j {c s : ℕ} (hc : c < 2) (hs : s < 16) :
    ∀ j ∈ (Finset.univ : Finset (Fin 8)), ∀ j' ∈ (Finset.univ : Finset (Fin 8)), j ≠ j' → Disjoint (blk c s j.val) (blk c s j'.val) := by
  intro j _ j' _ h
  rw [Finset.disjoint_left]
  intro x hx hx'
  exact h (Fin.ext (blkNo_inj hc hc hs hs j.isLt j'.isLt ((mem_blk.mp hx).symm.trans (mem_blk.mp hx'))).2.2)

/-- the words of tile `(c, s)`, -/
def tileSet (c s : ℕ) : Finset S8388608.Idx := (Finset.univ : Finset (Fin 8)).biUnion fun j => blk c s j.val

theorem mem_tileSet {c s : ℕ} {x : S8388608.Idx} : x ∈ tileSet c s ↔ ∃ j : Fin 8, (x 0).val / 32768 = blkNo c s j.val := by
  simp [tileSet, mem_blk]

/-- which no other tile of the core fills, -/
theorem tileSet_disjoint {c : ℕ} (hc : c < 2) :
    ∀ s ∈ (Finset.univ : Finset (Fin 16)), ∀ s' ∈ (Finset.univ : Finset (Fin 16)), s ≠ s' → Disjoint (tileSet c s.val) (tileSet c s'.val) := by
  intro s _ s' _ h
  rw [Finset.disjoint_left]
  intro x hx hx'
  obtain ⟨j, hj⟩ := mem_tileSet.mp hx
  obtain ⟨j', hj'⟩ := mem_tileSet.mp hx'
  exact h (Fin.ext (blkNo_inj hc hc s.isLt s'.isLt j.isLt j'.isLt (hj.symm.trans hj')).2.1)

/-- the words of core `c`, -/
def coreSet (c : ℕ) : Finset S8388608.Idx := (Finset.univ : Finset (Fin 16)).biUnion fun s => tileSet c s.val

theorem mem_coreSet {c : ℕ} {x : S8388608.Idx} : x ∈ coreSet c ↔ ∃ (s : Fin 16) (j : Fin 8), (x 0).val / 32768 = blkNo c s.val j.val := by
  simp [coreSet, mem_tileSet]

/-- which the other core does not fill; -/
theorem coreSet_disjoint :
    ∀ c ∈ (Finset.univ : Finset (Fin 2)), ∀ c' ∈ (Finset.univ : Finset (Fin 2)), c ≠ c' → Disjoint (coreSet c.val) (coreSet c'.val) := by
  intro c _ c' _ h
  rw [Finset.disjoint_left]
  intro x hx hx'
  obtain ⟨s, j, hj⟩ := mem_coreSet.mp hx
  obtain ⟨s', j', hj'⟩ := mem_coreSet.mp hx'
  exact h (Fin.ext (blkNo_inj c.isLt c'.isLt s.isLt s'.isLt j.isLt j'.isLt (hj.symm.trans hj')).1)

/-- and the two cores' words are all of the output. -/
theorem coreSet_cover : (Finset.univ : Finset (Fin 2)).biUnion (fun c => coreSet c.val) = Finset.univ := by
  ext x
  simp only [Finset.mem_biUnion, Finset.mem_univ, true_and, iff_true, mem_coreSet]
  have hx : (x 0).val < 8388608 := (x 0).isLt
  refine ⟨⟨(x 0).val / 32768 % 2, by omega⟩, ⟨(x 0).val / 32768 / 128 * 8 + (x 0).val / 32768 % 16 / 2, by omega⟩,
    ⟨(x 0).val / 32768 / 16 % 8, by omega⟩, ?_⟩
  unfold blkNo chunk; dsimp only; omega

end Cert.Proof.PosEmb

end
-- ==== Proof.Tile.lean ====
/-
  ONE TILE'S TASK, at a symbolic core and tile. A tile holds a read share of the flat weight table, its eight blocks of the
  output, and its own 32768-word buffer. It fetches its chunk of the table, starts the eight copies out of the buffer, all on
  one semaphore, and waits for the eight. The run is the symbolic executor's, told that the semaphore carries a batch of
  eight transfers that read one window. Afterwards each block holds the table's words `landed` names (`tile_body`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Batch
public import Idealize.ShloMosaic.Lib.ValueIdxCore
public import proofs.«01_k».proof.Proof.Gen.KernelIdeal.Skeleton
public import proofs.«01_k».proof.Proof.Blocks

@[expose] public section

noncomputable section

namespace Cert.Proof.PosEmb

open Cert.KernelIdeal Cert.KernelIdeal.Gen

open Idealize.ShloMosaic Idealize.ShloMosaic.ValueIdx
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it, and the ghost state -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The table, the output, and what lands in it -/

/-- The flat table and the flat output, on device `d`. -/
abbrev wLoc (d : Dev nD) : Loc nD τ sig := (SparseCore.T d).loc main_v0
abbrev oLoc (d : Dev nD) : Loc nD τ sig := (SparseCore.T d).loc main_v1

local notation "wV" => (Memref.whole main_v0_scv : Memref sig Kind.scVector Space.hbm S525056 EltTy.f32)
local notation "oV" => (Memref.whole main_v1_scv : Memref sig Kind.scVector Space.hbm S8388608 EltTy.f32)
local notation "bV" => (Memref.whole cc0_scratch0 : Memref sig Kind.scVector Space.vmem S32768 EltTy.f32)

/-- The output's word `x`: batches repeat every 524288 words, and each repeats the table from its third row on. -/
def landed {α : Type} (w : S525056.Idx → α) : S8388608.Idx → α := fun x => w (ix1 ⟨(x 0).val % 524288 + 256, by omega⟩)

/-- A tile's share of the table: the table dealt to the cores, a core's share dealt to its tiles. -/
def wShare (c : Fin 2) (s : Fin 16) : PosShare TreeShare :=
  Transfers.dealOf (Transfers.dealOf fullShare Finset.univ c) Finset.univ s

section Tile

variable (d : Dev nD) (L : grid0.Coords)

abbrev cL (L : grid0.Coords) : Fin 2 := L 0
abbrev sL (L : grid0.Coords) : Fin 16 := L 1
abbrev thr (d : Dev nD) (L : grid0.Coords) : Thread nD τ := V d ((L 0).castLE hcore0) ((L 1).castLE hsub0)

/-- The window of the table that the tile fetches, and the block of the output that its copy `j` fills. -/
abbrev wWin (L : grid0.Coords) : Memref sig .scVector .hbm S32768 .f32 :=
  (wV).slice (Rect.unit (s := S525056) (k0_off1 L) S32768.size (k0_off1_inb L)) (fun _ => rfl)
abbrev oWin (L : grid0.Coords) (j : Fin 8) : Memref sig .scVector .hbm S32768 .f32 :=
  (oV).slice (Rect.unit (s := S8388608) (k0_off2 L (BitVec.ofNat 32 j.val)) S32768.size (k0_off2_inb L j)) (fun _ => rfl)

theorem set_oWin (j : Fin 8) : (oWin L j).view.set = blk (L 0).val (L 1).val j.val := by
  show ((View.whole (main_v1_scv : Ref sig .scVector)).slice _).set = _
  rw [View.set_slice]
  refine Finset.map_refl.trans ?_
  ext x
  rw [Rect.mem_set_unit, mem_blk]
  have h := off2_eq L j
  constructor
  · intro hx
    have h0 := hx 0
    rw [h] at h0
    have h1 : S32768.size 0 = 32768 := rfl
    rw [h1] at h0
    omega
  · intro hx a
    match a with
    | 0 =>
      rw [h]
      have h1 : S32768.size 0 = 32768 := rfl
      rw [h1]; omega

/-- A word of the output's block `j`, as the copy's window names it. -/
theorem oWin_emb (j : Fin 8) (k : S32768.Idx) :
    ((oWin L j).view.emb k 0).val = blkNo (L 0).val (L 1).val j.val * 32768 + (k 0).val := by
  show k0_off2 L (BitVec.ofNat 32 j.val) 0 + 1 * (k 0).val = _
  rw [off2_eq]; omega

theorem wWin_emb (k : S32768.Idx) : ((wWin L).view.emb k 0).val = chunk (L 0).val (L 1).val * 32768 + 256 + (k 0).val := by
  show k0_off1 L 0 + 1 * (k 0).val = _
  rw [off1_eq]; omega

/-- The window of the table, read, is what the output's block `j` is to hold. -/
theorem read_wWin (w : Buf (Elt F) (wLoc d)) (j : Fin 8) (k : S32768.Idx) :
    (wWin L).view.read (Elt F) w k = landed w ((oWin L j).view.emb k) := by
  rw [show (wWin L).view.read (Elt F) w k = w ((wWin L).view.emb k) from (View.read_apply _ _).trans (cast_eq _ _)]
  unfold landed
  congr 1
  rw [eq_ix1 ((wWin L).view.emb k)]
  congr 1
  apply Fin.ext
  have hk : (k 0).val < 32768 := (k 0).isLt
  show ((wWin L).view.emb k 0).val = ((oWin L j).view.emb k 0).val % 524288 + 256
  rw [wWin_emb, oWin_emb]; unfold blkNo chunk; omega

/-- So the copy leaves the block at it. -/
theorem landed_win (w : Buf (Elt F) (wLoc d)) (f : Buf (Elt F) (oLoc d)) (pay : S32768.Idx → Elt F .f32)
    (hpay : pay = (wWin L).view.read (Elt F) w) (j : Fin 8) (i : S8388608.Idx) (hi : i ∈ (oWin L j).view.set) :
    (oWin L j).view.writes (Elt F) f [⟨Rect.whole S32768, pay⟩] i = landed w i := by
  obtain ⟨k, -, rfl⟩ := Finset.mem_map.mp hi
  have h := View.read_writes_cons_emb (oWin L j).view f (Rect.whole S32768) pay [] k
  rw [Rect.emb_whole_apply, View.read_apply, cast_eq] at h
  exact h.trans ((congrFun hpay k).trans (read_wWin d L w j k))

abbrev fetchCell (d : Dev nD) (L : grid0.Coords) : GSem nD τ sig := (thr d L, .dma cc0_scoped0.sem)
abbrev copyCell (d : Dev nD) (L : grid0.Coords) : GSem nD τ sig := (thr d L, .dma cc0_scratch1.sem)

/-- The tile's own semaphores: the fetch's, the copies', the rest; -/
theorem ownSems0_tile :
    (ownSems0 (thr d L) : sProp 𝕄)
      = iprop(semVal (fetchCell d L) 0 ∗ semVal (copyCell d L) 0
          ∗ bigSep (((ownCells (thr d L)).erase (fetchCell d L)).erase (copyCell d L)) fun g => semVal g 0) := by
  unfold SparseCore.Cfg.ownSems0
  rw [SparseCore.bigSep_erase' ((mem_ownCells (g := fetchCell d L)).mpr ⟨rfl, by
      show (SemLoc.dma cc0_scoped0.sem : SemLoc sig).isScoped .scVector = true; decide⟩),
    SparseCore.bigSep_erase' (Finset.mem_erase.mpr ⟨by simp [fetchCell, copyCell]; decide, (mem_ownCells (g := copyCell d L)).mpr ⟨rfl, by
      show (SemLoc.dma cc0_scratch1.sem : SemLoc sig).isScoped .scVector = true; decide⟩⟩)]

/-- and its own buffers: the chunk's, the rest. -/
theorem ownBufs_tile :
    (ownBufs (thr d L) : sProp 𝕄)
      = iprop((∃ f, (bV).view.loc (thr d L) ↦{fullShare} f)
          ∗ bigSep ((ownRefs (τ := τ) (.scVector ((L 0).castLE hcore0) ((L 1).castLE hsub0))).erase
              ((Proc.scVector ((L 0).castLE hcore0) ((L 1).castLE hsub0)).devRef cc0_scratch0))
              fun b => iprop(∃ f, ((d, b) : Loc nD τ sig) ↦{fullShare} f)) := by
  unfold SparseCore.Cfg.ownBufs
  exact SparseCore.bigSep_erase' (SparseCore.Cfg.mem_ownRefs_of_owner (p := Proc.scVector ((L 0).castLE hcore0) ((L 1).castLE hsub0))
    (b := (Proc.scVector ((L 0).castLE hcore0) ((L 1).castLE hsub0)).devRef cc0_scratch0) rfl)

/-- A family of eight, one by one. -/
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The block under a name whose element count is a literal, whatever the tile. -/
def oBlk (L : grid0.Coords) (j : Fin 8) : Memref sig .scVector .hbm S32768 .f32 := oWin L j

theorem pts_oBlk (j : Fin 8) (f : Buf (Elt F) (oLoc d)) :
    ((oBlk L j).view.loc (thr d L) ↦[(oBlk L j).view.set]{fullShare} f : sProp 𝕄) = oLoc d ↦[blk (L 0).val (L 1).val j.val]{fullShare} f := by
  show ((oWin L j).view.loc (thr d L) ↦[(oWin L j).view.set]{fullShare} f : sProp 𝕄) = _
  rw [set_oWin]

/-- Eight blocks of the output held at `f`, one by one. -/
theorem blocks_eq (f : Buf (Elt F) (oLoc d)) :
    (oLoc d ↦[tileSet (L 0).val (L 1).val]{fullShare} f : sProp 𝕄)
      = iprop(((oBlk L 0).view.loc (thr d L) ↦[(oBlk L 0).view.set]{fullShare} f) ∗ ((oBlk L 1).view.loc (thr d L) ↦[(oBlk L 1).view.set]{fullShare} f)
        ∗ ((oBlk L 2).view.loc (thr d L) ↦[(oBlk L 2).view.set]{fullShare} f) ∗ ((oBlk L 3).view.loc (thr d L) ↦[(oBlk L 3).view.set]{fullShare} f)
        ∗ ((oBlk L 4).view.loc (thr d L) ↦[(oBlk L 4).view.set]{fullShare} f) ∗ ((oBlk L 5).view.loc (thr d L) ↦[(oBlk L 5).view.set]{fullShare} f)
        ∗ ((oBlk L 6).view.loc (thr d L) ↦[(oBlk L 6).view.set]{fullShare} f) ∗ ((oBlk L 7).view.loc (thr d L) ↦[(oBlk L 7).view.set]{fullShare} f)) := by
  unfold tileSet
  rw [pointsTo_biUnion Finset.univ (ℓ := oLoc d) (fun j : Fin 8 => blk (L 0).val (L 1).val j.val) (blk_disjoint_j (L 0).isLt (L 1).isLt)]
  exact (bigSep_congr fun j _ => (pts_oBlk d L j f).symm).trans
    (bigSep_eight fun j => iprop((oBlk L j).view.loc (thr d L) ↦[(oBlk L j).view.set]{fullShare} f))

/-- A block as its copy left it is the block of `landed`. -/
theorem block_landed (w : Buf (Elt F) (wLoc d)) (f : Buf (Elt F) (oLoc d)) (pay : S32768.Idx → Elt F .f32)
    (hpay : pay = (wWin L).view.read (Elt F) w) (j : Fin 8) :
    ((oBlk L j).view.loc (thr d L) ↦[(oBlk L j).view.set]{fullShare} (oBlk L j).view.writes (Elt F) f [⟨Rect.whole S32768, pay⟩] : sProp 𝕄)
      = (oBlk L j).view.loc (thr d L) ↦[(oBlk L j).view.set]{fullShare} landed w :=
  pointsTo_congr fun i hi => landed_win d L w f pay hpay j i hi

variable [FloatOps F]

/-- The task's own text at the tile's buffers, its windows named: the fetch and its wait, eight copies, eight waits. -/
def tileProg (L : grid0.Coords) : Prog (TpuEff nD τ sig (Elt F) Λ₀ (.scVector ((L 0).castLE hcore0) ((L 1).castLE hsub0))) PUnit := do
  Prog.lift (.enqueueDma (wWin L) (.here bV) (.dma cc0_scoped0.sem) (View.wordExact_bits rfl) (Memref.isWhole_whole _).wordExact ⟨Or.inl rfl, trivial⟩)
  Prog.lift (.waitDma2 cc0_scoped0.sem (wWin L) bV (View.wordExact_bits rfl) (Memref.isWhole_whole _).wordExact)
  Prog.lift (.enqueueDma bV (.here (oBlk L 0)) (.dma cc0_scratch1.sem) (Memref.isWhole_whole _).wordExact (View.wordExact_bits rfl) ⟨Or.inl rfl, trivial⟩)
  Prog.lift (.enqueueDma bV (.here (oBlk L 1)) (.dma cc0_scratch1.sem) (Memref.isWhole_whole _).wordExact (View.wordExact_bits rfl) ⟨Or.inl rfl, trivial⟩)
  Prog.lift (.enqueueDma bV (.here (oBlk L 2)) (.dma cc0_scratch1.sem) (Memref.isWhole_whole _).wordExact (View.wordExact_bits rfl) ⟨Or.inl rfl, trivial⟩)
  Prog.lift (.enqueueDma bV (.here (oBlk L 3)) (.dma cc0_scratch1.sem) (Memref.isWhole_whole _).wordExact (View.wordExact_bits rfl) ⟨Or.inl rfl, trivial⟩)
  Prog.lift (.enqueueDma bV (.here (oBlk L 4)) (.dma cc0_scratch1.sem) (Memref.isWhole_whole _).wordExact (View.wordExact_bits rfl) ⟨Or.inl rfl, trivial⟩)
  Prog.lift (.enqueueDma bV (.here (oBlk L 5)) (.dma cc0_scratch1.sem) (Memref.isWhole_whole _).wordExact (View.wordExact_bits rfl) ⟨Or.inl rfl, trivial⟩)
  Prog.lift (.enqueueDma bV (.here (oBlk L 6)) (.dma cc0_scratch1.sem) (Memref.isWhole_whole _).wordExact (View.wordExact_bits rfl) ⟨Or.inl rfl, trivial⟩)
  Prog.lift (.enqueueDma bV (.here (oBlk L 7)) (.dma cc0_scratch1.sem) (Memref.isWhole_whole _).wordExact (View.wordExact_bits rfl) ⟨Or.inl rfl, trivial⟩)
  Prog.lift (.waitDma2 cc0_scratch1.sem bV (oBlk L 0) (Memref.isWhole_whole _).wordExact (View.wordExact_bits rfl))
  Prog.lift (.waitDma2 cc0_scratch1.sem bV (oBlk L 1) (Memref.isWhole_whole _).wordExact (View.wordExact_bits rfl))
  Prog.lift (.waitDma2 cc0_scratch1.sem bV (oBlk L 2) (Memref.isWhole_whole _).wordExact (View.wordExact_bits rfl))
  Prog.lift (.waitDma2 cc0_scratch1.sem bV (oBlk L 3) (Memref.isWhole_whole _).wordExact (View.wordExact_bits rfl))
  Prog.lift (.waitDma2 cc0_scratch1.sem bV (oBlk L 4) (Memref.isWhole_whole _).wordExact (View.wordExact_bits rfl))
  Prog.lift (.waitDma2 cc0_scratch1.sem bV (oBlk L 5) (Memref.isWhole_whole _).wordExact (View.wordExact_bits rfl))
  Prog.lift (.waitDma2 cc0_scratch1.sem bV (oBlk L 6) (Memref.isWhole_whole _).wordExact (View.wordExact_bits rfl))
  Prog.lift (.waitDma2 cc0_scratch1.sem bV (oBlk L 7) (Memref.isWhole_whole _).wordExact (View.wordExact_bits rfl))
  pure ⟨⟩

set_option maxRecDepth 8192 in
theorem task_eq : cc0_pos_embed (F := F) L wV (Memref.isWhole_whole _) oV (Memref.isWhole_whole _) bV (Memref.isWhole_whole _) cc0_scratch1 cc0_scoped0
    = tileProg L := rfl

set_option maxHeartbeats 4000000 in
/-- The task of tile `L`: the table's share back, the eight blocks at `landed`. -/
theorem tile_body (hF : (K (F := F)).Facts) (w : Buf (Elt F) (wLoc d)) (f : Buf (Elt F) (oLoc d)) (q : PosShare TreeShare)
    (O : CellTallies nD τ sig (HIx 1)) (W : Waits sig (HIx 1)) (hO : ∀ g, O g none = 0)
    (_plan : Transfers.BatchOf (thr d L) (SemLoc.dma cc0_scratch1.sem : SemLoc sig) 8 (windows := true)) :
    iprop(levAts (K (F := F)).L (K (F := F)).lev ∗ emp
        ∗ ((wLoc d ↦{q} w : sProp 𝕄) ∗ oLoc d ↦[tileSet (L 0).val (L 1).val]{fullShare} f)
        ∗ scopedBufs (thr d L) ∗ scopedSems0 (thr d L) ∗ owes (thr d L) O W)
      ⊢ wp frame (wpE (defs₀ (F := F)) 𝒱₀ (thr d L) none) Set.univ
          (cc0_pos_embed L wV (Memref.isWhole_whole _) oV (Memref.isWhole_whole _) bV (Memref.isWhole_whole _) cc0_scratch1 cc0_scoped0)
          fun _ => iprop(((wLoc d ↦{q} w : sProp 𝕄) ∗ oLoc d ↦[tileSet (L 0).val (L 1).val]{fullShare} landed w)
            ∗ scopedBufs (thr d L) ∗ scopedSems0 (thr d L)
            ∗ ∃ W', ⌜∀ p ∈ W', p ∈ W ∨ p.2 = none⌝ ∗ owes (thr d L) O W') := by
  rw [task_eq]; unfold tileProg
  rw [(K (F := F)).scopedBufs_V hF d ((L 0).castLE hcore0) ((L 1).castLE hsub0),
    SparseCore.Cfg.scopedSems0_V (Val := Elt F) d ((L 0).castLE hcore0) ((L 1).castLE hsub0), ownSems0_tile, ownBufs_tile, blocks_eq, blocks_eq]
  iintro ⟨#Hlv, -, ⟨Hw, H0, H1, H2, H3, H4, H5, H6, H7⟩, ⟨⟨%fb, Hb⟩, Hbufs⟩, ⟨Hfetch, Hcopy, Hsems⟩, HO⟩
  ihave Hmw := (show levAts (K (F := F)).L (K (F := F)).lev ⊢ Transfers.MayWaits (thr d L) (default : HIx 1) O from
    (K (F := F)).mayWaits_none (thr := thr d L) hO) $$ Hlv
  ihave Hw' := (Entails.of_eq (show (wLoc d ↦{q} w : sProp 𝕄) = (wV).view.loc (thr d L) ↦{q} w from rfl)) $$ Hw
  sl_exec
  sl_step
  have hpay : tile_body.sl.dma1 d L w fb = (wWin L).view.read (Elt F) w := by
    show (bV).view.read (Elt F) (View.write (Elt F) (bV).view fb (tile_body.sl.dma0 d L w) Finset.univ) = _
    rw [View.read_write_univ]; rfl
  isplitl [Hw' H0 H1 H2 H3 H4 H5 H6 H7]
  · isplitl [Hw']; · iexact Hw'
    isplitl [H0]; · iapply (Entails.of_eq (block_landed d L w f _ hpay 0)); iexact H0
    isplitl [H1]; · iapply (Entails.of_eq (block_landed d L w f _ hpay 1)); iexact H1
    isplitl [H2]; · iapply (Entails.of_eq (block_landed d L w f _ hpay 2)); iexact H2
    isplitl [H3]; · iapply (Entails.of_eq (block_landed d L w f _ hpay 3)); iexact H3
    isplitl [H4]; · iapply (Entails.of_eq (block_landed d L w f _ hpay 4)); iexact H4
    isplitl [H5]; · iapply (Entails.of_eq (block_landed d L w f _ hpay 5)); iexact H5
    isplitl [H6]; · iapply (Entails.of_eq (block_landed d L w f _ hpay 6)); iexact H6
    iapply (Entails.of_eq (block_landed d L w f _ hpay 7)); iexact H7
  isplitl [Hb Hbufs]
  · isplitl [Hb]; · iexists _; iexact Hb
    iexact Hbufs
  isplitl [Hfetch Hcopy Hsems]
  · isplitl [Hfetch]; · iexact Hfetch
    isplitl [Hcopy]; · iexact Hcopy
    iexact Hsems
  iexists _; isplitr
  swap; · iexact HO
  ipureintro; intro p hp
  simp only [Finset.mem_insert] at hp
  rcases hp with hp | hp | hp | hp | hp | hp | hp | hp | hp | hp
  all_goals first | exact .inl hp | exact .inr (hp ▸ rfl)

end Tile

end Cert.Proof.PosEmb

end
-- ==== Proof.Launch.lean ====
/-
  THE PROGRAM'S RUN. @main flattens the weight table, launches the 32 tiles, and gives the flat output its three axes. The
  launch hands each core a share of the flat table and the core's part of the output; the core hands each tile a share of
  its share and the tile's eight blocks. `tile_body` is what each tile does with them. The run ends with the result at
  `Rv`, the three arguments as they were, and every semaphore at zero (`run_main`).
-/
module

public import proofs.«01_k».proof.Proof.Tile

@[expose] public section

noncomputable section

namespace Cert.Proof.PosEmb

open Cert.KernelIdeal Cert.KernelIdeal.Gen

open Idealize.ShloMosaic Idealize.ShloMosaic.ValueIdx
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "wV" => (Memref.whole main_v0_scv : Memref sig Kind.scVector Space.hbm S525056 EltTy.f32)
local notation "oV" => (Memref.whole main_v1_scv : Memref sig Kind.scVector Space.hbm S8388608 EltTy.f32)
local notation "bV" => (Memref.whole cc0_scratch0 : Memref sig Kind.scVector Space.vmem S32768 EltTy.f32)

variable (m : (ℓ : Loc nD τ sig) → Buf (Elt F) ℓ) (ρ : Dev nD → PrngReg)

/-! ## @main's arrays, and their contents before and after the call -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev w' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opIn : HloOp τ sig (Elt F) := StableHlo.reshape main_arg2 main_v0 rfl shapeCasts_S4102x128_S525056
abbrev opOut : HloOp τ sig (Elt F) := StableHlo.reshape main_v1 main_v2 rfl shapeCasts_S8388608_S16x4096x128

/-- At the launch; -/
def V0 (d : Dev nD) : Valuation τ sig (Elt F) := fun b => m (d, b)
/-- with the table flattened; -/
def V1 (d : Dev nD) : Valuation τ sig (Elt F) := (opIn (F := F)).result (V0 m d)
/-- the flat table; -/
def wFlat (d : Dev nD) : Buf (Elt F) (wLoc d) := V1 m d w'
/-- after the call; -/
def V2 (d : Dev nD) : Valuation τ sig (Elt F) := Function.update (V1 m d) o' (landed (wFlat m d))
/-- at the end; -/
def V3 (d : Dev nD) : Valuation τ sig (Elt F) := (opOut (F := F)).result (V2 m d)
/-- the result. -/
def Rv (d : Dev nD) : Buf (Elt F) ((d.tc : Thread nD τ).loc main_v2) := V3 m d r'

theorem V1_of_ne (d : Dev nD) {b : DevRef τ sig} (h : b ∉ ({w'} : Finset (DevRef τ sig))) : V1 m d b = m (d, b) :=
  (opIn (F := F)).result_of_not_mem (V0 m d) h
theorem V2_of_ne (d : Dev nD) {b : DevRef τ sig} (h : b ≠ o') : V2 m d b = V1 m d b := Function.update_of_ne h _ _
theorem V2_o (d : Dev nD) : V2 m d o' = landed (wFlat m d) := Function.update_self _ _ _
theorem V3_of_ne (d : Dev nD) {b : DevRef τ sig} (h : b ∉ ({r'} : Finset (DevRef τ sig))) : V3 m d b = V2 m d b :=
  (opOut (F := F)).result_of_not_mem (V2 m d) h

/-- An array neither reshape nor the call writes ends as it began. -/
theorem V3_kept (d : Dev nD) {b : DevRef τ sig} (h : b ∉ ({r'} : Finset (DevRef τ sig))) (h' : b ≠ o') (h'' : b ∉ ({w'} : Finset (DevRef τ sig))) :
    V3 m d b = m (d, b) := (V3_of_ne m d h).trans ((V2_of_ne m d h').trans (V1_of_ne m d h''))

/-! ## What the handshakes carry -/

theorem nCore_zero : (K (F := F)).nCore 0 = 2 := rfl
theorem nSub_zero : (K (F := F)).nSub 0 = 16 := rfl

/-- A core's part: a share of the table, and its words of the output; -/
abbrev corePts (d : Dev nD) (c : Fin 2) (f : Buf (Elt F) (oLoc d)) : sProp 𝕄 :=
  iprop((wLoc d ↦{Transfers.dealOf fullShare Finset.univ c} wFlat m d) ∗ oLoc d ↦[coreSet c.val]{fullShare} f)
/-- a tile's part of it. -/
abbrev tilePts (d : Dev nD) (c : Fin 2) (s : Fin 16) (f : Buf (Elt F) (oLoc d)) : sProp 𝕄 :=
  iprop((wLoc d ↦{wShare c s} wFlat m d) ∗ oLoc d ↦[tileSet c.val s.val]{fullShare} f)

/-- Each takes its part with the output as launched, and returns it with the output at `landed`. -/
def P : (K (F := F)).Pay (nD := nD) (Val := Elt F) (Name := ℕ) (U := UU) where
  st := fun q d c => match q with | 0 => corePts m d (Fin.cast nCore_zero c) (m (oLoc d))
  dn := fun q d c => match q with | 0 => corePts m d (Fin.cast nCore_zero c) (landed (wFlat m d))
  go := fun q d c i => match q with | 0 => tilePts m d (Fin.cast nCore_zero c) (Fin.cast nSub_zero i) (m (oLoc d))
  td := fun q d c i => match q with | 0 => tilePts m d (Fin.cast nCore_zero c) (Fin.cast nSub_zero i) (landed (wFlat m d))
  x := fun _ _ => iprop(emp)

instance P_storable : (P (F := F) m).IsStorable where
  st q d c := match q with
    | 0 => (inferInstance : BI.Storable (upEmb : UEmb _ 𝕄) (corePts m d (Fin.cast nCore_zero c) (m (oLoc d))))
  dn q d c := match q with
    | 0 => (inferInstance : BI.Storable (upEmb : UEmb _ 𝕄) (corePts m d (Fin.cast nCore_zero c) (landed (wFlat m d))))
  go q d c i := match q with
    | 0 => (inferInstance : BI.Storable (upEmb : UEmb _ 𝕄) (tilePts m d (Fin.cast nCore_zero c) (Fin.cast nSub_zero i) (m (oLoc d))))
  td q d c i := match q with
    | 0 => (inferInstance : BI.Storable (upEmb : UEmb _ 𝕄) (tilePts m d (Fin.cast nCore_zero c) (Fin.cast nSub_zero i) (landed (wFlat m d))))

/-! ## A tile's obligation -/

def coords (c : Fin (grid0.bound 0)) (s : Fin (grid0.bound 1)) : grid0.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 0 ()
      = SparseCore.onTile hcore0 hsub0 (fun c s => cc0_pos_embed (coords c s)
          wV (Memref.isWhole_whole _) oV (Memref.isWhole_whole _) bV (Memref.isWhole_whole _) cc0_scratch1 cc0_scoped0) ⟨⟩ c s := rfl

omit [FloatOps F] in
/-- A wait at no level is one of those the launch allows. -/
theorem post_waits {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body d (coords ⟨_, hci.1⟩ ⟨_, hci.2⟩) hF (wFlat m d) (m (oLoc d)) (wShare (Fin.cast nCore_zero c) (Fin.cast nSub_zero i)) O W hO trivial).trans
    (wp_mono frame _ _ fun _ => post_waits)

/-! ## The parts split and join -/

/-- A core's part is its tiles' parts; -/
theorem core_tiles (d : Dev nD) (c : Fin 2) (f : Buf (Elt F) (oLoc d)) :
    corePts m d c f = bigSep Finset.univ fun s : Fin 16 => tilePts m d c s f := by
  have hw : (wLoc d ↦{Transfers.dealOf fullShare Finset.univ c} wFlat m d : sProp 𝕄)
      = bigSep Finset.univ fun s : Fin 16 => wLoc d ↦{wShare c s} wFlat m d :=
    Transfers.pointsTo_deal Finset.univ ⟨0, Finset.mem_univ _⟩ (Transfers.dealOf fullShare Finset.univ c)
  have ho : (oLoc d ↦[coreSet c.val]{fullShare} f : sProp 𝕄)
      = bigSep Finset.univ fun s : Fin 16 => oLoc d ↦[tileSet c.val s.val]{fullShare} f :=
    pointsTo_biUnion Finset.univ (ℓ := oLoc d) (fun s : Fin 16 => tileSet c.val s.val) (tileSet_disjoint c.isLt)
  unfold corePts tilePts
  rw [bigSep_sep', hw, ho]

/-- the table and the output are the two cores' parts. -/
theorem whole_cores (d : Dev nD) (f : Buf (Elt F) (oLoc d)) :
    (iprop((wLoc d ↦{fullShare} wFlat m d) ∗ oLoc d ↦{fullShare} f) : sProp 𝕄) = bigSep Finset.univ fun c : Fin 2 => corePts m d c f := by
  have hw : (wLoc d ↦{fullShare} wFlat m d : sProp 𝕄)
      = bigSep Finset.univ fun c : Fin 2 => wLoc d ↦{Transfers.dealOf fullShare Finset.univ c} wFlat m d :=
    Transfers.pointsTo_deal Finset.univ ⟨0, Finset.mem_univ _⟩ fullShare
  have ho : (oLoc d ↦{fullShare} f : sProp 𝕄) = bigSep Finset.univ fun c : Fin 2 => oLoc d ↦[coreSet c.val]{fullShare} f := by
    rw [← pointsTo_biUnion Finset.univ (ℓ := oLoc d) (fun c : Fin 2 => coreSet c.val) coreSet_disjoint, coreSet_cover]; try rfl
  unfold corePts
  rw [bigSep_sep', ← hw, ← ho]

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show corePts m d (Fin.cast nCore_zero c) (m (oLoc d)) ⊢ |={Set.univ}=> iprop(
      (bigSep Finset.univ fun i : Fin ((K (F := F)).nSub 0) => tilePts m d (Fin.cast nCore_zero c) (Fin.cast nSub_zero i) (m (oLoc d)))
      ∗ ((bigSep Finset.univ fun i : Fin ((K (F := F)).nSub 0) => tilePts m d (Fin.cast nCore_zero c) (Fin.cast nSub_zero i) (landed (wFlat m d)))
          -∗ corePts m d (Fin.cast nCore_zero c) (landed (wFlat m d))))
  rw [bigSep_tiles (fun s => tilePts m d (Fin.cast nCore_zero c) s (m (oLoc d))),
    bigSep_tiles (fun s => tilePts m d (Fin.cast nCore_zero c) s (landed (wFlat m d))), ← core_tiles, ← core_tiles]
  iintro H; imodintro
  isplitl [H]; · iexact H
  iintro H; iexact H

theorem st_eq (d : Dev nD) : (bigSep Finset.univ fun c : Fin ((K (F := F)).nCore 0) => (P m).st 0 d c)
    = iprop((wLoc d ↦{fullShare} wFlat m d) ∗ oLoc d ↦{fullShare} m (oLoc d)) :=
  (bigSep_cores fun c => corePts m d c (m (oLoc d))).trans (whole_cores m d (m (oLoc d))).symm
theorem dn_eq (d : Dev nD) : (bigSep Finset.univ fun c : Fin ((K (F := F)).nCore 0) => (P m).dn 0 d c)
    = iprop((wLoc d ↦{fullShare} wFlat m d) ∗ oLoc d ↦{fullShare} landed (wFlat m d)) :=
  (bigSep_cores fun c => corePts m d c (landed (wFlat m d))).trans (whole_cores m d (landed (wFlat m d))).symm

/-! ## The launch's ghost state -/

/-- Many times nothing is nothing. -/
theorem bigSep_none {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_none]
  iempintro

/-! ## @main -/

/-- @main's six arrays. -/
abbrev S6 : Finset (DevRef τ sig) := {a0', a1', a2', w', o', r'}

theorem held_S6 (d : Dev nD) (W : Valuation τ sig (Elt F)) :
    (held (SparseCore.T d) S6 W : sProp 𝕄)
      = iprop(((SparseCore.T d).loc main_arg0 ↦{fullShare} W a0') ∗ ((SparseCore.T d).loc main_arg1 ↦{fullShare} W a1') ∗ ((SparseCore.T d).loc main_arg2 ↦{fullShare} W a2')
          ∗ (wLoc d ↦{fullShare} W w') ∗ (oLoc d ↦{fullShare} W o') ∗ (SparseCore.T d).loc main_v2 ↦{fullShare} W r') := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscoped_held (d : Dev nD) : (unscopedBufs d (fun b => m ((SparseCore.T d).loc b)) : sProp 𝕄) = held (SparseCore.T d) S6 (V0 m d) := by
  rw [held_S6]
  unfold unscopedBufs
  rw [show (Finset.univ.filter fun b : Ref sig .tc => ¬ b.isScoped) = {main_arg0, main_arg1, main_arg2, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton]
  rfl

theorem hIn : (opIn (F := F)).bufs ⊆ S6 := show ({a2', w'} : Finset (DevRef τ sig)) ⊆ S6 by decide
theorem hOut : (opOut (F := F)).bufs ⊆ S6 := show ({o', r'} : Finset (DevRef τ sig)) ⊆ S6 by decide

/-- The six before the call, the output still as launched; -/
theorem held_V1 (d : Dev nD) :
    (held (SparseCore.T d) S6 ((opIn (F := F)).result (V0 m d)) : sProp 𝕄)
      = iprop(((SparseCore.T d).loc main_arg0 ↦{fullShare} V1 m d a0') ∗ ((SparseCore.T d).loc main_arg1 ↦{fullShare} V1 m d a1') ∗ ((SparseCore.T d).loc main_arg2 ↦{fullShare} V1 m d a2')
          ∗ (wLoc d ↦{fullShare} wFlat m d) ∗ (oLoc d ↦{fullShare} m (oLoc d)) ∗ (SparseCore.T d).loc main_v2 ↦{fullShare} V1 m d r') := by
  show held (SparseCore.T d) S6 (V1 m d) = _
  rw [held_S6, V1_of_ne m d (b := o') (by decide)]; rfl
/-- after it; -/
theorem held_V2 (d : Dev nD) :
    (held (SparseCore.T d) S6 (V2 m d) : sProp 𝕄)
      = iprop(((SparseCore.T d).loc main_arg0 ↦{fullShare} V1 m d a0') ∗ ((SparseCore.T d).loc main_arg1 ↦{fullShare} V1 m d a1') ∗ ((SparseCore.T d).loc main_arg2 ↦{fullShare} V1 m d a2')
          ∗ (wLoc d ↦{fullShare} wFlat m d) ∗ (oLoc d ↦{fullShare} landed (wFlat m d)) ∗ (SparseCore.T d).loc main_v2 ↦{fullShare} V1 m d r') := by
  rw [held_S6, V2_of_ne m d (b := a0') (by decide), V2_of_ne m d (b := a1') (by decide), V2_of_ne m d (b := a2') (by decide),
    V2_of_ne m d (b := w') (by decide), V2_of_ne m d (b := r') (by decide), V2_o]; rfl
/-- at the end. -/
theorem held_V3 (d : Dev nD) :
    (held (SparseCore.T d) S6 ((opOut (F := F)).result (V2 m d)) : sProp 𝕄)
      = iprop(((SparseCore.T d).loc main_arg0 ↦{fullShare} m ((SparseCore.T d).loc main_arg0)) ∗ ((SparseCore.T d).loc main_arg1 ↦{fullShare} m ((SparseCore.T d).loc main_arg1))
          ∗ ((SparseCore.T d).loc main_arg2 ↦{fullShare} m ((SparseCore.T d).loc main_arg2))
          ∗ (wLoc d ↦{fullShare} V3 m d w') ∗ (oLoc d ↦{fullShare} V3 m d o') ∗ (SparseCore.T d).loc main_v2 ↦{fullShare} Rv m d) := by
  show held (SparseCore.T d) S6 (V3 m d) = _
  rw [held_S6, V3_kept m d (b := a0') (by decide) (by decide) (by decide), V3_kept m d (b := a1') (by decide) (by decide) (by decide),
    V3_kept m d (b := a2') (by decide) (by decide) (by decide)]; rfl

/-- What @main leaves the claims: the arguments as launched, the result at `Rv`. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ (SparseCore.T d).loc main_v2 ↦{fullShare} Rv m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S6) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha0, Ha1, Ha2, Hw, Ho, Hr⟩
  iapply ((K (F := F)).wp_run (D (F := F)) 𝒱 (EH := EH) (P := P m) κ d 0) $$ [Hst Ha0 Ha1 Ha2 Hw Ho Hr Hb Hts]
  isplitr; · iexact Hctx
  isplitl [Hst]; · iexact Hst
  isplitl [Hw Ho]
  · rw [st_eq]
    isplitl [Hw]; · iexact Hw
    iexact Ho
  iintro ⟨Hst, Hdn⟩
  ihave Hdn' := (Entails.of_eq (dn_eq m d)) $$ Hdn
  icases Hdn' with ⟨Hw, Ho⟩
  iapply (wp_hlo_within 𝒱 (SparseCore.T d) none Set.univ (op := opOut) (S := S6) hOut (V := V2 m d)) $$ [Hb Ha0 Ha1 Ha2 Hw Ho Hr]
  · isplitl [Hb]; · iexact Hb
    rw [held_V2]
    isplitl [Ha0]; · iexact Ha0
    isplitl [Ha1]; · iexact Ha1
    isplitl [Ha2]; · iexact Ha2
    isplitl [Hw]; · iexact Hw
    isplitl [Ho]; · iexact Ho
    iexact Hr
  iintro ⟨Hb, Hheld⟩
  ihave Hh := (Entails.of_eq (held_V3 (F := F) m d)) $$ Hheld
  icases Hh with ⟨Ha0, Ha1, Ha2, -, -, Hr⟩
  rw [wp_ret]; imodintro; imodintro
  isplitl [Hst]; · iexact Hst
  isplitr [Hb Hts]
  · isplitl [Ha0]; · iexact Ha0
    isplitl [Ha1]; · iexact Ha1
    isplitl [Ha2]; · iexact Ha2
    iexact Hr
  isplitl [Hb] <;> iassumption

/-! ## The end of the run -/

/-- What the claims read of device `d`. -/
def EndAt (d : Dev nD) (mem : (ℓ : Loc nD τ sig) → Buf (Elt F) ℓ) : Prop :=
  mem ((SparseCore.T d).loc main_v2) = Rv m d ∧ mem ((SparseCore.T d).loc main_arg0) = m ((SparseCore.T d).loc main_arg0)
    ∧ mem ((SparseCore.T d).loc main_arg1) = m ((SparseCore.T d).loc main_arg1) ∧ mem ((SparseCore.T d).loc main_arg2) = m ((SparseCore.T d).loc main_arg2)

/-- An array held whole is in memory as held. -/
theorem read_whole (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H' := (persistent_entails_right (SI_pointsTo_agree (st := s') (ℓ := ℓ) (I := Finset.univ) (q := fullShare) (f := f))) $$ H
  icases H' with ⟨%h, HSI, -⟩
  isplitr
  · ipureintro; exact funext fun i => h i (Finset.mem_univ i)
  iexact HSI

theorem hfin (d : Dev nD) (s' : Phys nD τ sig (Elt F)) : iprop(FIN m d ∗ SI s') ⊢ (⌜EndAt m d s'.mem.mem⌝ : sProp 𝕄) := by
  iintro ⟨⟨Ha0, Ha1, Ha2, Hr⟩, HSI⟩
  ihave H := (read_whole s' ((SparseCore.T d).loc main_arg0) (m ((SparseCore.T d).loc main_arg0))) $$ [HSI Ha0]
  · isplitl [HSI] <;> iassumption
  icases H with ⟨%h0, HSI⟩
  ihave H := (read_whole s' ((SparseCore.T d).loc main_arg1) (m ((SparseCore.T d).loc main_arg1))) $$ [HSI Ha1]
  · isplitl [HSI] <;> iassumption
  icases H with ⟨%h1, HSI⟩
  ihave H := (read_whole s' ((SparseCore.T d).loc main_arg2) (m ((SparseCore.T d).loc main_arg2))) $$ [HSI Ha2]
  · isplitl [HSI] <;> iassumption
  icases H with ⟨%h2, HSI⟩
  ihave H := (read_whole s' ((SparseCore.T d).loc main_v2) (Rv m d)) $$ [HSI Hr]
  · isplitl [HSI] <;> iassumption
  icases H with ⟨%hr, -⟩
  ipureintro; exact ⟨hr, h0, h1, h2⟩

def QC : PUnit × MemSt nD τ sig (Elt F) → Prop := fun r => (∀ d : Dev nD, EndAt m d r.2.mem) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fun d s' => EndAt m d s'.mem.mem) (hfin m) (QC m)
    (fun _ h hz => ⟨h, hz⟩)

end Cert.Proof.PosEmb

end
-- ==== Proof.Value.lean ====
/-
  THE TWO RESULTS ARE ONE. Where the mask marks no padding, the reference's position of word `s` of every batch is `s + 2`:
  the running sum counts `s + 1` words, and the padding index 1 is added (`posOf_row`). The position is a row of the table,
  so nothing is wrapped or masked out, and the reference's result at `(b, s, k)` is the table's word `(s + 2, k)`
  (`refTerm_eq`). The program's result there is the same word (`Rv_eq`), read through its two reshapes.
-/
module

public import proofs.«01_k».proof.Proof.Launch
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_no_padding
public import Idealize.ShloMosaic.Lib.Pipeline.Value
public import Idealize.ShloMosaic.Lib.Routing.Ops
public import Idealize.ShloMosaic.Lib.ReduceAll
public import Idealize.ShloMosaic.Lib.StableHlo.Predicate

@[expose] public section

noncomputable section

namespace Cert.Proof.PosEmb

open Idealize.ShloMosaic Idealize.ShloMosaic.ValueIdx

variable {F : FTy → Type} [FloatOps F]

/-! ## The running sum of a matrix of ones, and a gather of rows -/

section Ops
open Idealize.ShloMosaic.Routing

/-- A window one row high and `N` wide, padded low by `N − 1`, over a matrix of ones: entry `(i, j)` is `j + 1`. -/
theorem runningSum_ones {R N low : ℕ} (hN : low + 1 = N) (x : IVec ⟨2, ![R, N]⟩ 32) (hx : ∀ i, x i = 1#32) (init : IVec ⟨0, ![]⟩ 32)
    (hinit : ∀ i, init i = 0#32)
    (h : (⟨2, ![R, N]⟩ : Shape).ReduceWindows (![1, N] : Fin 2 → Nat) ![1, 1] ![0, low] ![0, 0] ⟨2, ![R, N]⟩)
    (hu : 0 < (⟨0, ![]⟩ : Shape).numel) (i : Fin R) (j : Fin N) :
    Host.reduceWindow IntOp.addi ![1, N] ![1, 1] ![0, low] ![0, 0] x init h hu (ix2 i j) = BitVec.ofNat 32 (j.val + 1) := by
  subst hN
  have hj := j.isLt
  have hi := i.isLt
  unfold Host.reduceWindow
  refine (foldl_addi_ofNat _ _ (fun n => if low ≤ j.val + n.val then 1 else 0) (fun n _ => ?_) _ 0 (hinit _)).trans ?_
  · have h0 : ((shape2 1 (low + 1)).rowMajor.symm n 0).val = 0 := by rw [symm2]; rfl
    have h1 : ((shape2 1 (low + 1)).rowMajor.symm n 1).val = n.val := by rw [symm2]; rfl
    have hn : n.val < low + 1 := (n.cast (numel2 _)).isLt
    dsimp only
    split
    · next hin =>
      have hc := (hin 1).1
      change low ≤ j.val * 1 + ((shape2 1 (low + 1)).rowMajor.symm n 1).val at hc
      rw [h1] at hc
      rw [hx, if_pos (by omega)]
    · next hin =>
      rw [hinit, if_neg fun hle => hin fun a => ?_]
      match a with
      | ⟨0, _⟩ =>
        show 0 ≤ i.val * 1 + ((shape2 1 (low + 1)).rowMajor.symm n 0).val ∧ i.val * 1 + ((shape2 1 (low + 1)).rowMajor.symm n 0).val - 0 < R
        rw [h0]; omega
      | ⟨1, _⟩ =>
        show low ≤ j.val * 1 + ((shape2 1 (low + 1)).rowMajor.symm n 1).val
          ∧ j.val * 1 + ((shape2 1 (low + 1)).rowMajor.symm n 1).val - low < low + 1
        rw [h1]; omega
  · rw [Nat.zero_add, map_finRange_val _ (fun w => if low ≤ j.val + w then 1 else 0)]
    refine congrArg (BitVec.ofNat 32) ((congrArg (fun M => ((List.range M).map fun w => if low ≤ j.val + w then 1 else 0).sum)
      (numel2 (low + 1))).trans ((sum_window (fun _ => 1) low j.val (by omega)).trans ?_))
    simp

end Ops

section Reference

open Cert.ReferenceIdeal Cert.ReferenceIdeal.Gen

/-- A gather of the table's rows at `(b, s, k)`: word `k` of the row its index names. -/
theorem gather_rows {α : Type} (x : S4102x128.Idx → α) (idx : IVec S16x4096x1 32) (b : Fin 16) (s : Fin 4096) (k : Fin 128) (r : Fin 4102)
    (hr : idx (ix3 b s 0) = BitVec.ofNat 32 r.val) :
    Host.gather gather_S4102x128_S16x4096x1_S16x4096x128_2_0_n_n_0_2_1128 x idx (ix3 b s k) = x (ix2 r k) := by
  unfold Host.gather
  refine congrArg x (funext fun a => Fin.ext ?_)
  generalize hd : gather_S4102x128_S16x4096x1_S16x4096x128_2_0_n_n_0_2_1128 = d
  have hcases : a = 0 ∨ a = 1 := by
    match a with
    | ⟨0, _⟩ => exact .inl rfl
    | ⟨1, _⟩ => exact .inr rfl
  show d.start (ix3 b s k) idx a + d.batchCoord (ix3 b s k) a + d.offCoord (ix3 b s k) a = _
  rw [d.batchCoord_eq_zero _ _ (by subst hd; exact List.not_mem_nil), Nat.add_zero]
  rcases hcases with rfl | rfl
  · rw [d.offCoord_eq_zero _ _ (fun h => ((d.mem_sKept _).mp h).1 (by subst hd; exact List.mem_singleton.mpr rfl)), Nat.add_zero]
    have hm : (0 : Fin 2) ∈ d.startIndexMap := by subst hd; exact List.mem_singleton.mpr rfl
    unfold GatherDims.start
    rw [dif_pos hm]
    have hsi : d.siIdx (ix3 b s k) ⟨d.startIndexMap.idxOf 0, List.idxOf_lt_length_iff.2 hm⟩ = ix3 b s (0 : Fin 1) := by
      subst hd
      funext c
      match c with
      | ⟨0, _⟩ => rfl
      | ⟨1, _⟩ => rfl
      | ⟨2, _⟩ => rfl
    have hrl := r.isLt
    rw [hsi, hr, StableHlo.Predicate.toInt_ofNat_small _ (by omega)]
    subst hd
    show min ((r.val : Int)).toNat (4102 - 1) = r.val
    omega
  · have hm : (1 : Fin 2) ∉ d.startIndexMap := by subst hd; exact (by decide : (1 : Fin 2) ∉ [0])
    have hk : (1 : Fin 2) ∈ d.sKept := (d.mem_sKept 1).2 (by subst hd; exact (by decide : (1 : Fin 2) ∉ [0] ∧ (1 : Fin 2) ∉ []))
    unfold GatherDims.start GatherDims.offCoord
    rw [dif_neg hm, dif_pos hk, Nat.zero_add]
    subst hd
    rfl

/-! ## The reference's term, in steps -/

/-- One where the mask marks no padding; -/
def keepOf (mask : IVec S16x4096 1) : IVec S16x4096 32 :=
  extui 32 (cmpi .ne (select mask (broadcastInDim S16x4096 ![] bcast_S_S16x4096 (id (constantI S_ 32 1#32)))
      (broadcastInDim S16x4096 ![] bcast_S_S16x4096 (constantI S_ 32 2#32)))
    (broadcastInDim S16x4096 ![] bcast_S_S16x4096 (constantI S_ 32 1#32))) natLt_1_32

/-- the positions; -/
def posOf (mask : IVec S16x4096 1) : IVec S16x4096 32 :=
  addi (muli (Host.reduceWindow IntOp.addi ![1, 4096] ![1, 1] ![0, 4095] ![0, 0] (keepOf mask)
      (broadcastInDim S_ ![] bcast_S_S_ (constantI S_ 32 0#32)) reduceWindows_S16x4096_S16x4096_w1s1p0_0_w4096s1p4095_0 h_S_) (keepOf mask))
    (broadcastInDim S16x4096 ![] bcast_S_S16x4096 (constantI S_ 32 1#32))

/-- the rows they name, a negative one counted from the table's end; -/
def rowsOf (mask : IVec S16x4096 1) : IVec S16x4096x1 32 :=
  broadcastInDim S16x4096x1 ![0, 1] bcast_S16x4096_S16x4096x1_0_1
    (select (cmpi .slt (posOf mask) (broadcastInDim S16x4096 ![] bcast_S_S16x4096 (constantI S_ 32 0#32)))
      (addi (posOf mask) (broadcastInDim S16x4096 ![] bcast_S_S16x4096 (constantI S_ 32 4102#32))) (posOf mask))

/-- which of them are rows of the table; -/
def insideOf (mask : IVec S16x4096 1) : IVec S16x4096 1 :=
  Host.reduce IntOp.andi (andi (cmpi .sge (rowsOf mask) (broadcastInDim S16x4096x1 ![] bcast_S_S16x4096x1 (constantI S_ 32 0#32)))
      (cmpi .sle (rowsOf mask) (broadcastInDim S16x4096x1 ![0, 1, 2] bcast_S1x1x1_S16x4096x1_0_1_2
        (broadcastInDim S1x1x1 ![2] bcast_S1_S1x1x1_2 (constantI S1 32 4101#32)))))
    (constantI S_ 1 1#1) reducesTo_S16x4096x1_S16x4096_d2 h_S_

/-- the rows gathered, a filler where there is none. -/
def refTerm (mask : IVec S16x4096 1) (w : FVec F S4102x128 .f32) : FVec F S16x4096x128 .f32 :=
  select (broadcastInDim S16x4096x128 ![0, 1] bcast_S16x4096_S16x4096x128_0_1 (insideOf mask))
    (Host.gather gather_S4102x128_S16x4096x1_S16x4096x128_2_0_n_n_0_2_1128 w (rowsOf mask))
    (broadcastInDim S16x4096x128 ![] bcast_S_S16x4096x128 (constant S_ .f32 0x7FC00000#32))

variable {mask : IVec S16x4096 1}

theorem keepOf_one (hm : ∀ i, mask i = 0#1) (i : S16x4096.Idx) : keepOf mask i = 1#32 := by
  show (IntOp.cmpi .ne (Scalar.select (mask i) 1#32 2#32) 1#32).setWidth 32 = 1#32
  rw [hm i]; decide

theorem posOf_row (hm : ∀ i, mask i = 0#1) (b : Fin 16) (s : Fin 4096) : posOf mask (ix2 b s) = BitVec.ofNat 32 (s.val + 2) := by
  have hsum := runningSum_ones (low := 4095) rfl (keepOf mask) (keepOf_one hm) (broadcastInDim S_ ![] bcast_S_S_ (constantI S_ 32 0#32))
    (fun _ => rfl) reduceWindows_S16x4096_S16x4096_w1s1p0_0_w4096s1p4095_0 h_S_ b s
  show Host.reduceWindow IntOp.addi ![1, 4096] ![1, 1] ![0, 4095] ![0, 0] (keepOf mask)
      (broadcastInDim S_ ![] bcast_S_S_ (constantI S_ 32 0#32)) reduceWindows_S16x4096_S16x4096_w1s1p0_0_w4096s1p4095_0 h_S_ (ix2 b s)
      * keepOf mask (ix2 b s) + 1#32 = _
  rw [hsum, keepOf_one hm, BitVec.mul_one, show (1#32 : BitVec 32) = BitVec.ofNat 32 1 from rfl, ← BitVec.ofNat_add]

theorem toNat_row {s : ℕ} (hs : s < 4096) : (BitVec.ofNat 32 (s + 2)).toNat = s + 2 := by
  rw [BitVec.toNat_ofNat]; omega

theorem rowsOf_row (hm : ∀ i, mask i = 0#1) (b : Fin 16) (s : Fin 4096) (z : Fin 1) : rowsOf mask (ix3 b s z) = BitVec.ofNat 32 (s.val + 2) := by
  have hs := s.isLt
  unfold rowsOf
  rw [broadcastInDim_apply _ _ _ (ix3 b s z) (ix2 b s) (fun a => by
    match a with
    | ⟨0, _⟩ => rfl
    | ⟨1, _⟩ => rfl)]
  show Scalar.select (IntOp.cmpi .slt (posOf mask (ix2 b s)) 0#32) (posOf mask (ix2 b s) + 4102#32) (posOf mask (ix2 b s)) = _
  rw [posOf_row hm]
  have h0 : ¬ IntOp.cmpi .slt (BitVec.ofNat 32 (s.val + 2)) 0#32 = 1#1 := by
    rw [StableHlo.Predicate.slt_iff_toNat (by rw [toNat_row hs]; omega) (by decide)]
    simp
  exact if_neg h0

theorem insideOf_one (hm : ∀ i, mask i = 0#1) (j : S16x4096.Idx) : insideOf mask j = 1#1 := by
  refine Host.reduce_andi_one _ _ _ _ _ rfl fun i => ?_
  have hs : (i 1).val < 4096 := (i 1).isLt
  show IntOp.andi (IntOp.cmpi .sge (rowsOf mask i) 0#32) (IntOp.cmpi .sle (rowsOf mask i) 4101#32) = 1#1
  have hr : rowsOf mask i = BitVec.ofNat 32 ((i 1).val + 2) := (congrArg (rowsOf mask) (eq_ix3 i)).trans (rowsOf_row hm (i 0) (i 1) (i 2))
  rw [hr]
  have hge : IntOp.cmpi .sge (BitVec.ofNat 32 ((i 1).val + 2)) 0#32 = 1#1 := by
    rw [StableHlo.Predicate.sge_iff_toNat (by rw [toNat_row hs]; omega) (by decide)]; simp
  have hle : IntOp.cmpi .sle (BitVec.ofNat 32 ((i 1).val + 2)) 4101#32 = 1#1 := by
    rw [StableHlo.Predicate.sle_iff_toNat (by rw [toNat_row hs]; omega) (by decide), toNat_row hs]
    show (i 1).val + 2 ≤ 4101
    omega
  rw [hge, hle]; rfl

/-- The reference's result where the mask marks no padding. -/
theorem refTerm_eq (hm : ∀ i, mask i = 0#1) (w : FVec F S4102x128 .f32) (b : Fin 16) (s : Fin 4096) (k : Fin 128) :
    refTerm mask w (ix3 b s k) = w (ix2 ⟨s.val + 2, by omega⟩ k) := by
  have hin : broadcastInDim S16x4096x128 ![0, 1] bcast_S16x4096_S16x4096x128_0_1 (insideOf mask) (ix3 b s k) = 1#1 :=
    (broadcastInDim_apply _ _ _ (ix3 b s k) (ix2 b s) (fun a => by
      match a with
      | ⟨0, _⟩ => rfl
      | ⟨1, _⟩ => rfl)).trans (insideOf_one hm _)
  unfold refTerm select
  exact (if_pos hin).trans <| gather_rows w (rowsOf mask) b s k ⟨s.val + 2, by omega⟩ (rowsOf_row hm b s 0)

/-- The two printed references compute it. -/
theorem out_refIdeal (m : (ℓ : Loc nD τ sig) → Buf (Elt F) ℓ) (d : Dev nD) :
    Cert.ReferenceIdeal.Value.res_out0 m d = refTerm (m ((d.tc : Thread nD τ).loc main_arg1)) (m ((d.tc : Thread nD τ).loc main_arg2)) := rfl
theorem out_ref (m : (ℓ : Loc Cert.Reference.nD Cert.Reference.τ Cert.Reference.sig) → Buf (Elt F) ℓ) (d : Dev Cert.Reference.nD) :
    Cert.Reference.Value.res_out0 m d
      = refTerm (m ((d.tc : Thread Cert.Reference.nD Cert.Reference.τ).loc Cert.Reference.main_arg1))
          (m ((d.tc : Thread Cert.Reference.nD Cert.Reference.τ).loc Cert.Reference.main_arg2)) := rfl

/-- The precondition, read: the mask marks no padding. -/
theorem mask_of_pre (x : FVec F S16x4096x128 .f32) (w : FVec F S4102x128 .f32) (h : Cert.Pre_no_padding.fn (F := F) x mask w = fun _ => 1#1)
    (i : S16x4096.Idx) : mask i = 0#1 := by
  have hall : noti mask i = 1#1 := by
    have : Subsingleton Cert.Pre_no_padding.S_.Idx := ⟨fun a b => funext fun k => k.elim0⟩
    have h0 := congrFun h ix0
    unfold Cert.Pre_no_padding.fn at h0
    exact Host.reduce_andi_all (noti mask) _ Cert.Pre_no_padding.Facts.reducesTo_S16x4096_S_d0_1 Cert.Pre_no_padding.Facts.h_S_ ix0 h0 i
  revert hall
  show ~~~ (mask i) = 1#1 → _
  generalize mask i = v
  revert v; decide

end Reference

/-! ## The program's result -/

section Program

open Cert.KernelIdeal Cert.KernelIdeal.Gen

variable (m : (ℓ : Loc nD τ sig) → Buf (Elt F) ℓ)

/-- The flat table's word `128 r + k` is the table's word `(r, k)`. -/
theorem wFlat_apply (d : Dev nD) (r : Fin 4102) (k : Fin 128) (p : Fin 525056) (hp : p.val = r.val * 128 + k.val) :
    wFlat m d (ix1 p) = m ((d.tc : Thread nD τ).loc main_arg2) (ix2 r k) := by
  have h : wFlat m d = fun i => shapeCast S525056 (m ((d.tc : Thread nD τ).loc main_arg2)) shapeCasts_S4102x128_S525056 i := by
    unfold wFlat V1
    exact StableHlo.reshape_result main_arg2 main_v0 rfl shapeCasts_S4102x128_S525056 (by decide) (by decide) (V0 m d)
  rw [h]
  refine shapeCast_apply _ _ _ (ix2 r k) ?_
  rw [Shape.rowMajor_val_two, Shape.rowMajor_val_one]
  exact hp.symm

/-- The program's result at `(b, s, k)`: the table's word `(s + 2, k)`. -/
theorem Rv_eq (d : Dev nD) (b : Fin 16) (s : Fin 4096) (k : Fin 128) :
    Rv m d (ix3 b s k) = m ((d.tc : Thread nD τ).loc main_arg2) (ix2 ⟨s.val + 2, by omega⟩ k) := by
  have hs := s.isLt
  have hb := b.isLt
  have hk := k.isLt
  have h : Rv m d = fun i => shapeCast S16x4096x128 (landed (wFlat m d)) shapeCasts_S8388608_S16x4096x128 i := by
    unfold Rv V3
    refine (StableHlo.reshape_result main_v1 main_v2 rfl shapeCasts_S8388608_S16x4096x128 (by decide) (by decide) (V2 m d)).trans ?_
    rw [V2_o]; rfl
  rw [h]
  dsimp only
  rw [shapeCast_apply _ _ _ (ix1 (⟨(b.val * 4096 + s.val) * 128 + k.val, by omega⟩ : Fin 8388608)) (by
    rw [Shape.rowMajor_val_one, Shape.rowMajor_val_three]; rfl)]
  unfold landed
  refine wFlat_apply m d ⟨s.val + 2, by omega⟩ k _ ?_
  show ((b.val * 4096 + s.val) * 128 + k.val) % 524288 + 256 = (s.val + 2) * 128 + k.val
  omega

/-- Where the mask marks no padding, it is the reference's term. -/
theorem Rv_eq_refTerm (d : Dev nD) {mask : IVec S16x4096 1} (hm : ∀ i, mask i = 0#1) :
    Rv m d = refTerm mask (m ((d.tc : Thread nD τ).loc main_arg2)) := by
  funext i
  rw [eq_ix3 i]
  exact (Rv_eq m d (i 0) (i 1) (i 2)).trans (refTerm_eq hm _ (i 0) (i 1) (i 2)).symm

end Program

end Cert.Proof.PosEmb

end
-- ==== Proof.lean ====
/-
  THE CLAIMS. Each run is one of three: the program's (`run_main`, proved for any float values, so it serves the printed
  program and its idealization), and the two printed references' (the generated `run`). The shared value of the two value
  claims is the program's result `Rv`, which is the reference's term where the mask marks no padding (`Rv_eq_refTerm`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.Pre_no_padding
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The program's run, at both of its printings. -/
theorem run_kernel (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩ (PosEmb.QC (F := Bits) m) :=
  PosEmb.run_main (F := Bits) m ρ

theorem frame_kernel : Cert.quiescent_Kernel := fun m ρ _ =>
  (θ_run Cert.Kernel.defs _ _).mono (fun _ h => ⟨fun c => (h.1 c).2, h.2⟩) (run_kernel m ρ)

theorem frame_kernel_pre : Cert.quiescent_Kernel_pre_no_padding := fun m ρ _ => frame_kernel m ρ trivial

theorem frame_kernelIdeal : Cert.quiescent_KernelIdeal := fun m ρ _ =>
  (θ_run Cert.KernelIdeal.defs _ _).mono (fun _ h => ⟨fun c => (h.1 c).2, h.2⟩) (PosEmb.run_main m ρ)

theorem frame_kernelIdeal_pre : Cert.quiescent_KernelIdeal_pre_no_padding := fun m ρ _ => frame_kernelIdeal m ρ trivial

theorem frame_referenceIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

theorem frame_referenceIdeal_pre : Cert.quiescent_ReferenceIdeal_pre_no_padding := fun m ρ _ => frame_referenceIdeal m ρ trivial

theorem frame_reference : Cert.quiescent_Reference := fun m ρ _ =>
  (θ_run Cert.Reference.defs _ _).mono (fun r h => ⟨fun c => (h c).2, sem_eq_zero_of_no_sems (by decide) r.2⟩) (Cert.Reference.Value.run m ρ)

theorem algebraic : Cert.algebraic_KernelIdeal_ReferenceIdeal_pre_no_padding := by
  intro m ρ m' ρ' hpre hagree
  refine ⟨fun c => PosEmb.Rv m c, (θ_run Cert.KernelIdeal.defs _ _).mono (fun _ h c => h.1 c) (PosEmb.run_main m ρ), ?_⟩
  refine (θ_run Cert.ReferenceIdeal.defs _ _).mono (fun _ h c => ⟨(h c).1.trans ?_, (h c).2⟩) (Cert.ReferenceIdeal.Value.run m' ρ')
  refine (PosEmb.out_refIdeal m' c).trans ?_
  rw [(hagree c).2.1, (hagree c).2.2]
  exact (PosEmb.Rv_eq_refTerm m c (PosEmb.mask_of_pre _ _ (hpre c))).symm

theorem bitexact : Cert.bitexact_Kernel_Reference_pre_no_padding := by
  intro m ρ m' ρ' hpre hagree
  refine ⟨fun c => PosEmb.Rv (F := Bits) m c, (θ_run Cert.Kernel.defs _ _).mono (fun _ h c => h.1 c) (run_kernel m ρ), ?_⟩
  refine (θ_run Cert.Reference.defs _ _).mono (fun _ h c => ⟨(h c).1.trans ?_, (h c).2⟩) (Cert.Reference.Value.run m' ρ')
  refine (PosEmb.out_ref m' c).trans ?_
  rw [(hagree c).2.1, (hagree c).2.2]
  exact (PosEmb.Rv_eq_refTerm (F := Bits) m c (PosEmb.mask_of_pre _ _ (hpre c))).symm

/-- `Cert.Claim` (Defs.lean). -/
theorem claim : Cert.Claim :=
  ⟨Cert.Kernel.Gen.facts, Cert.KernelIdeal.Gen.facts, Cert.ReferenceIdeal.Gen.facts, Cert.Reference.Gen.facts, Cert.Pre_no_padding.Gen.facts,
    frame_kernel, frame_kernel_pre, frame_kernelIdeal, frame_kernelIdeal_pre, frame_referenceIdeal, frame_referenceIdeal_pre, frame_reference,
    trivial, algebraic, bitexact⟩

end Cert.Proof

end
